-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_ok [hPre_indices_ok : Cert.Pre_indices_ok.Facts] (m : (ℓ : Loc Cert.KernelIdeal.nD Cert.KernelIdeal.τ Cert.KernelIdeal.sig) → Buf (Elt Ideal) ℓ) : Prop :=
  ∀ c : Dev Cert.KernelIdeal.nD,
    (Cert.Pre_indices_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_ok [hPre_indices_ok : Cert.Pre_indices_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_indices_ok [hKernelIdeal : Cert.KernelIdeal.Facts] [hPre_indices_ok : Cert.Pre_indices_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_indices_ok [hReferenceIdeal : Cert.ReferenceIdeal.Facts] [hPre_indices_ok : Cert.Pre_indices_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_indices_ok [hKernelIdeal : Cert.KernelIdeal.Facts] [hReferenceIdeal : Cert.ReferenceIdeal.Facts] [hPre_indices_ok : Cert.Pre_indices_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_indices_ok : Cert.Pre_indices_ok.Facts),
    quiescent_Kernel (hKernel := hKernel)
    ∧ quiescent_KernelIdeal (hKernelIdeal := hKernelIdeal)
    ∧ quiescent_KernelIdeal_pre_indices_ok (hKernelIdeal := hKernelIdeal) (hPre_indices_ok := hPre_indices_ok)
    ∧ quiescent_ReferenceIdeal (hReferenceIdeal := hReferenceIdeal)
    ∧ quiescent_ReferenceIdeal_pre_indices_ok (hReferenceIdeal := hReferenceIdeal) (hPre_indices_ok := hPre_indices_ok)
    ∧ preserves_Kernel_KernelIdeal
    ∧ algebraic_KernelIdeal_ReferenceIdeal_pre_indices_ok (hKernelIdeal := hKernelIdeal) (hReferenceIdeal := hReferenceIdeal) (hPre_indices_ok := hPre_indices_ok)
-- ==== Pre_indices_ok.lean ====
abbrev S16384x128 : Shape := ⟨2, ![16384, 128]⟩
abbrev S64x64 : Shape := ⟨2, ![64, 64]⟩
abbrev S64 : Shape := ⟨1, ![64]⟩
abbrev S_ : Shape := ⟨0, ![]⟩
abbrev S64x1 : Shape := ⟨2, ![64, 1]⟩
abbrev S1x64 : Shape := ⟨2, ![1, 64]⟩

class Facts : Prop where
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)

variable [Facts]

def fn_part1 {F : FTy → Type} [FloatOps F] (main_arg5 : IVec S64 32) (main_arg7 : IVec S64 32) (main_v16 : IVec S64 1) (main_v17 : IVec S64 32) : IVec S64x64 1 :=
  let main_v18 : IVec S64x1 32 := broadcastInDim S64x1 ![0] bcast_S64_S64x1_0 main_arg5
  let main_v19 : IVec S1x64 32 := broadcastInDim S1x64 ![1] bcast_S64_S1x64_1 main_arg5
  let main_v20 : IVec S64x64 32 := broadcastInDim S64x64 ![0, 1] bcast_S64x1_S64x64_0_1 main_v18
  let main_v21 : IVec S64x64 32 := broadcastInDim S64x64 ![0, 1] bcast_S1x64_S64x64_0_1 main_v19
  let main_v22 : IVec S64x64 1 := cmpi .ne main_v20 main_v21
  let main_v23 : IVec S64x1 32 := broadcastInDim S64x1 ![0] bcast_S64_S64x1_0 main_arg7
  let main_v24 : IVec S1x64 32 := broadcastInDim S1x64 ![1] bcast_S64_S1x64_1 main_arg7
  let main_v25 : IVec S64x64 32 := broadcastInDim S64x64 ![0, 1] bcast_S64x1_S64x64_0_1 main_v23
  let main_v26 : IVec S64x64 32 := broadcastInDim S64x64 ![0, 1] bcast_S1x64_S64x64_0_1 main_v24
  let main_v27 : IVec S64x64 1 := cmpi .ne main_v25 main_v26
  let main_v28 : IVec S64x64 1 := andi main_v22 main_v27
  let main_v29 : IVec S64x1 32 := broadcastInDim S64x1 ![0] bcast_S64_S64x1_0 main_v17
  let main_v30 : IVec S1x64 32 := broadcastInDim S1x64 ![1] bcast_S64_S1x64_1 main_v17
  let main_v31 : IVec S64x64 32 := broadcastInDim S64x64 ![0, 1] bcast_S64x1_S64x64_0_1 main_v29
  let main_v32 : IVec S64x64 32 := broadcastInDim S64x64 ![0, 1] bcast_S1x64_S64x64_0_1 main_v30
  let main_v33 : IVec S64x64 1 := cmpi .eq main_v31 main_v32
  let main_v34 : IVec S64x64 1 := ori main_v33 main_v28
  let main_v35 : IVec S64x1 1 := broadcastInDim S64x1 ![0] bcast_S64_S64x1_0 main_v16
  let main_v36 : IVec S64x64 1 := broadcastInDim S64x64 ![0, 1] bcast_S64x1_S64x64_0_1 main_v35
  let main_v37 : IVec S64x64 1 := andi main_v34 main_v36
  main_v37

def fn {F : FTy → Type} [FloatOps F] (main_arg0 : FVec F S16384x128 .f32) (main_arg1 : FVec F S64x64 .f32) (main_arg2 : FVec F S64 .f32) (main_arg3 : FVec F S64x64 .f32) (main_arg4 : FVec F S64 .f32) (main_arg5 : IVec S64 32) (main_arg6 : IVec S64 32) (main_arg7 : IVec S64 32) : IVec S64x64 1 :=
  let main_c : IVec S_ 32 := constantI S_ 32 0#32
  let main_v0 : IVec S64 32 := broadcastInDim S64 ![] bcast_S_S64 main_c
  let main_v1 : IVec S64 1 := cmpi .sge main_arg5 main_v0
  let main_c_0 : IVec S_ 32 := constantI S_ 32 128#32
  let main_v2 : IVec S64 32 := broadcastInDim S64 ![] bcast_S_S64 main_c_0
  let main_v3 : IVec S64 1 := cmpi .slt main_arg5 main_v2
  let main_v4 : IVec S64 1 := andi main_v1 main_v3
  let main_c_1 : IVec S_ 32 := constantI S_ 32 0#32
  let main_v5 : IVec S64 32 := broadcastInDim S64 ![] bcast_S_S64 main_c_1
  let main_v6 : IVec S64 1 := cmpi .sge main_arg6 main_v5
  let main_c_2 : IVec S_ 32 := constantI S_ 32 128#32
  let main_v7 : IVec S64 32 := broadcastInDim S64 ![] bcast_S_S64 main_c_2
  let main_v8 : IVec S64 1 := cmpi .slt main_arg6 main_v7
  let main_v9 : IVec S64 1 := andi main_v6 main_v8
  let main_v10 : IVec S64 1 := andi main_v4 main_v9
  let main_c_3 : IVec S_ 32 := constantI S_ 32 0#32
  let main_v11 : IVec S64 32 := broadcastInDim S64 ![] bcast_S_S64 main_c_3
  let main_v12 : IVec S64 1 := cmpi .sge main_arg7 main_v11
  let main_c_4 : IVec S_ 32 := constantI S_ 32 128#32
  let main_v13 : IVec S64 32 := broadcastInDim S64 ![] bcast_S_S64 main_c_4
  let main_v14 : IVec S64 1 := cmpi .slt main_arg7 main_v13
  let main_v15 : IVec S64 1 := andi main_v12 main_v14
  let main_v16 : IVec S64 1 := andi main_v10 main_v15
  let main_v17 : IVec S64 32 := iotaInDim S64 32 0
  fn_part1 (F := F) main_arg5 main_arg7 main_v16 main_v17
-- ==== Kernel.lean ====
abbrev S16384x128 : Shape := ⟨2, ![16384, 128]⟩
abbrev S64x64 : Shape := ⟨2, ![64, 64]⟩
abbrev S64 : Shape := ⟨1, ![64]⟩
abbrev S8192x128 : Shape := ⟨2, ![8192, 128]⟩
abbrev S128x384 : Shape := ⟨2, ![128, 384]⟩
abbrev S1x128 : Shape := ⟨2, ![1, 128]⟩
abbrev S1x64 : Shape := ⟨2, ![1, 64]⟩
abbrev S128x64 : Shape := ⟨2, ![128, 64]⟩
abbrev S64x128 : Shape := ⟨2, ![64, 128]⟩
abbrev S128 : Shape := ⟨1, ![128]⟩
abbrev S128x128 : Shape := ⟨2, ![128, 128]⟩

abbrev nBuf : Space → Nat
  | .hbm => 9
  | .vmem => 14
  | .smem => 0
  | _ => 0

abbrev bufTy : (tb : Table) → Fin (tcTables nBuf tb) → BufTy
  | .hbm, ⟨0, _⟩ => ⟨S16384x128, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64, .i32⟩
  | .hbm, ⟨6, _⟩ => ⟨S64, .i32⟩
  | .hbm, ⟨7, _⟩ => ⟨S64, .i32⟩
  | .hbm, ⟨8, _⟩ => ⟨S16384x128, .f32⟩
  | .local _ .vmem, ⟨0, _⟩ => ⟨S64, .i32⟩
  | .local _ .vmem, ⟨1, _⟩ => ⟨S64, .i32⟩
  | .local _ .vmem, ⟨2, _⟩ => ⟨S64, .i32⟩
  | .local _ .vmem, ⟨3, _⟩ => ⟨S64x64, .f32⟩
  | .local _ .vmem, ⟨4, _⟩ => ⟨S64x64, .f32⟩
  | .local _ .vmem, ⟨5, _⟩ => ⟨S64, .f32⟩
  | .local _ .vmem, ⟨6, _⟩ => ⟨S64, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S128x384, .f32⟩
  | .local _ .vmem, ⟨12, _⟩ => ⟨S1x128, .f32⟩
  | .local _ .vmem, ⟨13, _⟩ => ⟨S1x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16384x128 : Shape := ⟨2, ![16384, 128]⟩
abbrev S64x64 : Shape := ⟨2, ![64, 64]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩
abbrev S16384x64 : Shape := ⟨2, ![16384, 64]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i1⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S64x1, .i32⟩
  | .hbm, ⟨16, _⟩ => ⟨S1, .i32⟩
  | .hbm, ⟨17, _⟩ => ⟨S_, .i32⟩
  | .hbm, ⟨18, _⟩ => ⟨S64x1, .i32⟩
  | .hbm, ⟨19, _⟩ => ⟨S64x1, .i1⟩
  | .hbm, ⟨20, _⟩ => ⟨S1x1, .i32⟩
  | .hbm, ⟨21, _⟩ => ⟨S64x1, .i32⟩
  | .hbm, ⟨22, _⟩ => ⟨S64x1, .i1⟩
  | .hbm, ⟨23, _⟩ => ⟨S64x1, .i1⟩
  | .hbm, ⟨24, _⟩ => ⟨S_, .i1⟩
  | .hbm, ⟨25, _⟩ => ⟨S64, .i1⟩
  | .hbm, ⟨26, _⟩ => ⟨S16384x64, .f32⟩
  | .hbm, ⟨27, _⟩ => ⟨S16384x64, .i1⟩
  | .hbm, ⟨28, _⟩ => ⟨S_, .f32⟩
  | .hbm, ⟨29, _⟩ => ⟨S16384x64, .f32⟩
  | .hbm, ⟨30, _⟩ => ⟨S16384x64, .f32⟩
  | .hbm, ⟨31, _⟩ => ⟨S_, .i32⟩
  | .hbm, ⟨32, _⟩ => ⟨S64, .i32⟩
  | .hbm, ⟨33, _⟩ => ⟨S64, .i1⟩
  | .hbm, ⟨34, _⟩ => ⟨S_, .i32⟩
  | .hbm, ⟨35, _⟩ => ⟨S64, .i32⟩
  | .hbm, ⟨36, _⟩ => ⟨S64, .i32⟩
  | .hbm, ⟨37, _⟩ => ⟨S64, .i32⟩
  | .hbm, ⟨38, _⟩ => ⟨S64x1, .i32⟩
  | .hbm, ⟨39, _⟩ => ⟨S1, .i32⟩
  | .hbm, ⟨40, _⟩ => ⟨S_, .i32⟩
  | .hbm, ⟨41, _⟩ => ⟨S64x1, .i32⟩
  | .hbm, ⟨42, _⟩ => ⟨S64x1, .i1⟩
  | .hbm, ⟨43, _⟩ => ⟨S1x1, .i32⟩
  | .hbm, ⟨44, _⟩ => ⟨S64x1, .i32⟩
  | .hbm, ⟨45, _⟩ => ⟨S64x1, .i1⟩
  | .hbm, ⟨46, _⟩ => ⟨S64x1, .i1⟩
  | .hbm, ⟨47, _⟩ => ⟨S_, .i1⟩
  | .hbm, ⟨48, _⟩ => ⟨S64, .i1⟩
  | .hbm, ⟨49, _⟩ => ⟨S16384x64, .f32⟩
  | .hbm, ⟨50, _⟩ => ⟨S16384x64, .i1⟩
  | .hbm, ⟨51, _⟩ => ⟨S_, .f32⟩
  | .hbm, ⟨52, _⟩ => ⟨S16384x64, .f32⟩
  | .hbm, ⟨53, _⟩ => ⟨S16384x64, .f32⟩
  | .hbm, ⟨54, _⟩ => ⟨S64x64, .f32⟩
  | .hbm, ⟨55, _⟩ => ⟨S16384x64, .f32⟩
  | .hbm, ⟨56, _⟩ => ⟨S1x64, .f32⟩
  | .hbm, ⟨57, _⟩ => ⟨S16384x64, .f32⟩
  | .hbm, ⟨58, _⟩ => ⟨S16384x64, .f32⟩
  | .hbm, ⟨59, _⟩ => ⟨S64x64, .f32⟩
  | .hbm, ⟨60, _⟩ => ⟨S16384x64, .f32⟩
  | .hbm, ⟨61, _⟩ => ⟨S1x64, .f32⟩
  | .hbm, ⟨62, _⟩ => ⟨S16384x64, .f32⟩
  | .hbm, ⟨63, _⟩ => ⟨S16384x64, .f32⟩
  | .hbm, ⟨64, _⟩ => ⟨S16384x64, .f32⟩
  | .hbm, ⟨65, _⟩ => ⟨S16384x64, .f32⟩
  | .hbm, ⟨66, _⟩ => ⟨S_, .i32⟩
  | .hbm, ⟨67, _⟩ => ⟨S64, .i32⟩
  | .hbm, ⟨68, _⟩ => ⟨S64, .i1⟩
  | .hbm, ⟨69, _⟩ => ⟨S_, .i32⟩
  | .hbm, ⟨70, _⟩ => ⟨S64, .i32⟩
  | .hbm, ⟨71, _⟩ => ⟨S64, .i32⟩
  | .hbm, ⟨72, _⟩ => ⟨S64, .i32⟩
  | .hbm, ⟨73, _⟩ => ⟨S64x1, .i32⟩
  | .hbm, ⟨74, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_c : Ref sig .tc := ⟨.hbm, 66, rfl⟩
abbrev main_v14 : Ref sig .tc := ⟨.hbm, 67, rfl⟩
abbrev main_v15 : Ref sig .tc := ⟨.hbm, 68, rfl⟩
abbrev main_c_0 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩

abbrev nD : Nat := 1
abbrev τ : Topo := Topo.v7x

variable {F : FTy → Type} [FloatOps F]
-- ==== Proof.OneHot.lean ====
/- Sums over extended reals against one-hot tables, and the two sides of the claim written with them.

   The kernel writes a column gather and a column scatter as products with tables of zeros and ones. Extended reals do not
   distribute, so a table is only ever opened where at most one of its entries on the summed axis is not zero: that is where
   the columns named by `indices`, and those named by `idx_B`, have to be distinct. -/
module

public import Mathlib.Data.EReal.Operations
public import Mathlib.Algebra.BigOperators.Group.Finset.Basic
public import Mathlib.Algebra.BigOperators.Group.Finset.Piecewise
public import Mathlib.Data.Fintype.BigOperators

@[expose] public section

noncomputable section

namespace Cert.OneHot

/-- The entry of the one-hot table of `e` at `d`: one where they agree. -/
def hot {n : ℕ} (e d : Fin n) : EReal := if e = d then 1 else 0

theorem hot_self {n : ℕ} (e : Fin n) : hot e e = 1 := if_pos rfl

theorem hot_ne {n : ℕ} {e d : Fin n} (h : e ≠ d) : hot e d = 0 := if_neg h

variable {n k : ℕ}

/-- A row against the one-hot column of `e` is the row's entry `e`. -/
theorem sum_row_hot (f : Fin n → EReal) (e : Fin n) : ∑ d, f d * hot e d = f e := by
  rw [Finset.sum_eq_single e (fun d _ hd => by rw [hot_ne hd.symm, mul_zero]) (fun h => (h (Finset.mem_univ e)).elim), hot_self, mul_one]

/-- The table of the places `p`, against values `f`, at a place the map `p` takes once: the value there. -/
theorem sum_place_hit (p : Fin k → Fin n) (hp : Function.Injective p) (f : Fin k → EReal) (h : Fin k) :
    ∑ i, f i * hot (p i) (p h) = f h := by
  rw [Finset.sum_eq_single h (fun i _ hi => by rw [hot_ne (fun e => hi (hp e)), mul_zero]) (fun q => (q (Finset.mem_univ h)).elim),
    hot_self, mul_one]

/-- The same at a place the map does not take: zero. -/
theorem sum_place_miss (p : Fin k → Fin n) (f : Fin k → EReal) (c : Fin n) (hc : ∀ i, p i ≠ c) : ∑ i, f i * hot (p i) c = 0 :=
  Finset.sum_eq_zero fun i _ => by rw [hot_ne (hc i), mul_zero]

/-- How many of the places `p` are `p h`, when none repeats: one. -/
theorem sum_count_hit (p : Fin k → Fin n) (hp : Function.Injective p) (h : Fin k) : ∑ i, hot (p i) (p h) = 1 := by
  simpa only [one_mul] using sum_place_hit p hp (fun _ => (1 : EReal)) h

/-- How many of the places `p` are a place it does not take: none. -/
theorem sum_count_miss (p : Fin k → Fin n) (c : Fin n) (hc : ∀ i, p i ≠ c) : ∑ i, hot (p i) c = 0 :=
  Finset.sum_eq_zero fun i _ => hot_ne (hc i)

/-- An entry of the row times weights folded onto the columns `q` names: since no column is named twice, the product goes inside. -/
theorem mul_fold (q : Fin k → Fin n) (hq : Function.Injective q) (w : Fin k → EReal) (a : EReal) (d : Fin n) :
    a * ∑ i, hot (q i) d * w i = ∑ i, if q i = d then a * w i else 0 := by
  by_cases hd : ∃ h, q h = d
  · obtain ⟨h, rfl⟩ := hd
    rw [Finset.sum_eq_single h (fun i _ hi => by rw [hot_ne (fun e => hi (hq e)), zero_mul]) (fun e => (e (Finset.mem_univ h)).elim),
      Finset.sum_eq_single h (fun i _ hi => if_neg fun e => hi (hq e)) (fun e => (e (Finset.mem_univ h)).elim),
      hot_self, one_mul, if_pos rfl]
  · have hn : ∀ i, q i ≠ d := fun i e => hd ⟨i, e⟩
    rw [Finset.sum_eq_zero fun i _ => by rw [hot_ne (hn i), zero_mul], mul_zero, Finset.sum_eq_zero fun i _ => if_neg (hn i)]

/-- A row against weights folded onto distinct columns is the gathered row against the weights. -/
theorem sum_row_fold (q : Fin k → Fin n) (hq : Function.Injective q) (w : Fin k → EReal) (f : Fin n → EReal) :
    ∑ d, f d * ∑ i, hot (q i) d * w i = ∑ i, f (q i) * w i := by
  simp only [mul_fold q hq w]
  rw [Finset.sum_comm]
  exact Finset.sum_congr rfl fun i _ => by rw [Finset.sum_ite_eq, if_pos (Finset.mem_univ _)]

/-- One minus one is zero. -/
theorem one_sub_one : (1 : EReal) - 1 = 0 := EReal.sub_self (by decide) (by decide)

/-! ## The two sides -/

/-- What the kernel computes at column `c` of a row `f`: with places `s` (from `indices`), columns `a` and `b` (from `idx_A`, `idx_B`). -/
def blended (f : Fin n → EReal) (Wm Wa : Fin k → Fin k → EReal) (bm ba : Fin k → EReal) (s a b : Fin k → Fin n) (c : Fin n) : EReal :=
  ((∑ d, f d * ∑ h, (∑ i, hot (b i) d * Wm h i) * hot (s h) c) + ∑ h, bm h * hot (s h) c)
      * (∑ d, f d * ∑ h, hot (a h) d * hot (s h) c)
    + ((∑ d, f d * ((if d = c then 1 - ∑ h, hot (s h) c else 0) + ∑ h, (∑ i, hot (b i) d * Wa h i) * hot (s h) c))
      + ∑ h, ba h * hot (s h) c)

/-- What the reference puts at the place of `h`: the gathered row scaled and shifted. -/
def coupled (f : Fin n → EReal) (Wm Wa : Fin k → Fin k → EReal) (bm ba : Fin k → EReal) (a b : Fin k → Fin n) (h : Fin k) : EReal :=
  ((∑ i, f (b i) * Wm h i) + bm h) * f (a h) + ((∑ i, f (b i) * Wa h i) + ba h)

variable (f : Fin n → EReal) (Wm Wa : Fin k → Fin k → EReal) (bm ba : Fin k → EReal) (s a b : Fin k → Fin n)

/-- At the place of `h` the kernel's column is the reference's. -/
theorem blended_hit (hs : Function.Injective s) (hb : Function.Injective b) (h : Fin k) :
    blended f Wm Wa bm ba s a b (s h) = coupled f Wm Wa bm ba a b h := by
  have hsum (W : Fin k → Fin k → EReal) (d : Fin n) :
      ∑ h', (∑ i, hot (b i) d * W h' i) * hot (s h') (s h) = ∑ i, hot (b i) d * W h i :=
    sum_place_hit s hs (fun h' => ∑ i, hot (b i) d * W h' i) h
  have hga (d : Fin n) : ∑ h', hot (a h') d * hot (s h') (s h) = hot (a h) d := sum_place_hit s hs (fun h' => hot (a h') d) h
  simp only [blended, coupled, hsum, hga, sum_place_hit s hs bm h, sum_place_hit s hs ba h, sum_count_hit s hs h, one_sub_one, ite_self,
    zero_add, sum_row_fold b hb, sum_row_hot]

/-- At a column that `indices` does not name the kernel keeps the row's entry. -/
theorem blended_miss (c : Fin n) (hc : ∀ h, s h ≠ c) : blended f Wm Wa bm ba s a b c = f c := by
  have hsum (W : Fin k → Fin k → EReal) (d : Fin n) : ∑ h', (∑ i, hot (b i) d * W h' i) * hot (s h') c = 0 :=
    sum_place_miss s (fun h' => ∑ i, hot (b i) d * W h' i) c hc
  have hga (d : Fin n) : ∑ h', hot (a h') d * hot (s h') c = 0 := sum_place_miss s (fun h' => hot (a h') d) c hc
  have hkeep : ∑ d, f d * (if d = c then (1 : EReal) else 0) = f c := by
    rw [← sum_row_hot f c]
    exact Finset.sum_congr rfl fun d _ => by unfold hot; simp only [eq_comm]
  simp only [blended, hsum, hga, sum_place_miss s bm c hc, sum_place_miss s ba c hc, sum_count_miss s c hc, sub_zero, add_zero, mul_zero,
    Finset.sum_const_zero, zero_add, hkeep]

end Cert.OneHot

end
-- ==== Proof.Words.lean ====
/- Index words and the columns they name, and what the precondition says of the three index arrays. -/
module

public import proofs.«01_k».proof.Pre_indices_ok
public import Idealize.ShloMosaic.Lib.Pointwise
public import Idealize.ShloMosaic.Lib.WordCmp

@[expose] public section

set_option maxRecDepth 16384

noncomputable section

namespace Cert.Words

open Idealize.ShloMosaic

/-- Word `h` of `w` is the number of column `p h`. -/
def Names (w : IVec (⟨1, ![64]⟩ : Shape) 32) (p : Fin 64 → Fin 128) : Prop := ∀ h : Fin 64, w (ix1 h) = BitVec.ofNat 32 (p h).val

/-- Two column numbers are the same word exactly when they are the same column. -/
theorem word_eq_iff (d e : Fin 128) : BitVec.ofNat 32 d.val = BitVec.ofNat 32 e.val ↔ e = d := by
  constructor
  · intro q
    have := congrArg BitVec.toNat q
    simp only [BitVec.toNat_ofNat] at this
    exact Fin.ext (by omega)
  · rintro rfl; rfl

/-- The column a word names, read off its low seven bits. -/
def col (w : IVec (⟨1, ![64]⟩ : Shape) 32) (h : Fin 64) : Fin 128 := ⟨(w (ix1 h)).toNat % 128, Nat.mod_lt _ (by decide)⟩

/-- A word below 128 is the number of the column it names. -/
theorem names_col (w : IVec (⟨1, ![64]⟩ : Shape) 32) (hw : ∀ h : Fin 64, (w (ix1 h)).toNat < 128) : Names w (col w) := fun h => by
  refine BitVec.eq_of_toNat_eq ?_
  have := hw h
  simp only [col, BitVec.toNat_ofNat]
  omega

/-- Words that name their columns, and differ where their places differ, name different columns. -/
theorem col_injective (w : IVec (⟨1, ![64]⟩ : Shape) 32) (hn : Names w (col w)) (hd : ∀ i j : Fin 64, i ≠ j → w (ix1 i) ≠ w (ix1 j)) :
    Function.Injective (col w) := fun i j e => by
  by_contra hij
  exact hd i j hij (by rw [hn i, hn j, e])

/-- The relations between shapes that the precondition states. -/
instance facts : Cert.Pre_indices_ok.Facts where
  bcast_S_S64 := by decide
  bcast_S64_S64x1_0 := by decide
  bcast_S64_S1x64_1 := by decide
  bcast_S64x1_S64x64_0_1 := by decide
  bcast_S1x64_S64x64_0_1 := by decide

section Pre
open Cert.Pre_indices_ok

variable {x : FVec Ideal S16384x128 .f32} {Wm Wa : FVec Ideal S64x64 .f32} {bm ba : FVec Ideal S64 .f32} {s a b : IVec S64 32}

/-- The precondition at a pair of places: the words are below 128 at the first, and two different places hold different words of
    `indices` and of `idx_B`. -/
theorem of_pre (h : fn (F := Ideal) x Wm bm Wa ba s a b = fun _ => 1#1) (i j : Fin 64) :
    ((s (ix1 i)).toNat < 128 ∧ (a (ix1 i)).toNat < 128 ∧ (b (ix1 i)).toNat < 128)
      ∧ (i ≠ j → s (ix1 i) ≠ s (ix1 j) ∧ b (ix1 i) ≠ b (ix1 j)) := by
  have e := congrFun h (ix2 i j)
  pointwise [fn, fn_part1] at e
  rw [WordCmp.andi_sge_zero_slt_ofNat (by decide), WordCmp.andi_sge_zero_slt_ofNat (by decide), WordCmp.andi_sge_zero_slt_ofNat (by decide),
    WordCmp.cmpi_eq_ofNat (by omega) (by omega)] at e
  simp only [WordCmp.cmpi_ne_eq, WordCmp.andi_ofBool, WordCmp.ori_ofBool, WordCmp.ofBool_eq_one_iff, Bool.and_eq_true, Bool.or_eq_true,
    decide_eq_true_eq] at e
  exact ⟨⟨e.2.1.1, e.2.1.2, e.2.2⟩, fun hij => e.1.resolve_left fun q => hij (Fin.ext q)⟩

variable (h : fn (F := Ideal) x Wm bm Wa ba s a b = fun _ => 1#1)
include h

/-- Under the precondition each word of `indices` names a column of its own. -/
theorem pre_indices : Names s (col s) ∧ Function.Injective (col s) :=
  have hn := names_col s fun i => (of_pre h i i).1.1
  ⟨hn, col_injective s hn fun i j hij => ((of_pre h i j).2 hij).1⟩

/-- Each word of `idx_A` names a column. -/
theorem pre_idxA : Names a (col a) := names_col a fun i => (of_pre h i i).1.2.1

/-- Each word of `idx_B` names a column of its own. -/
theorem pre_idxB : Names b (col b) ∧ Function.Injective (col b) :=
  have hn := names_col b fun i => (of_pre h i i).1.2.2
  ⟨hn, col_injective b hn fun i j hij => ((of_pre h i j).2 hij).2⟩

end Pre

end Cert.Words

end
-- ==== Proof.Block.lean ====
/- What one block of the kernel computes: each vector the body stores, read at an index, over extended reals.

   `p`, `a`, `b` are the columns that the words of `indices`, `idx_A` and `idx_B` name: word `h` is the number of column `p h`. -/
module

public import proofs.«01_k».proof.Proof.Gen.KernelIdeal.Skeleton
public import proofs.«01_k».proof.Proof.OneHot
public import proofs.«01_k».proof.Proof.Words
public import Idealize.ShloMosaic.Lib.Pointwise

@[expose] public section

set_option maxRecDepth 16384

noncomputable section

namespace Cert.KernelIdeal.Block

open Idealize.ShloMosaic Idealize.ShloMosaic.TcCoe Idealize.SL.Sem
open Cert.KernelIdeal Cert.KernelIdeal.Gen Cert.OneHot Cert.Words

/-- The comparison of a column number with a word, converted to a float, is the one-hot entry of the column that the word names. -/
theorem word_hot (d e : Fin 128) :
    (FloatOps.sitofp .f32 (BitVec.setWidth 32 (IntOp.cmpi .eq (BitVec.ofNat 32 d.val) (BitVec.ofNat 32 e.val))) : Ideal .f32) = hot e d := by
  show ((((BitVec.setWidth 32 (BitVec.ofBool (BitVec.ofNat 32 d.val == BitVec.ofNat 32 e.val))).toInt : ℤ) : ℝ) : EReal) = _
  by_cases h : e = d
  · subst h; rw [hot_self, beq_self_eq_true]; simp
  · rw [hot_ne h, beq_eq_false_iff_ne.2 (fun q => h ((word_eq_iff d e).1 q))]; simp

variable {ws wa wb : IVec S64 32} {p a b : Fin 64 → Fin 128}

/-- The table of `idx_B`: one-hot, column `h` at `b h`. -/
theorem pay9_at (hb : Names wb b) (d : Fin 128) (h : Fin 64) : k0_pay9 (F := Ideal) wb (ix2 d h) = hot (b h) d := by
  pointwise [k0_pay9]
  rw [hb h]
  exact word_hot d (b h)

/-- The table of `indices`, transposed: one-hot, row `h` at `p h`. -/
theorem pay10_at (hs : Names ws p) (h : Fin 64) (c : Fin 128) : k0_pay10 (F := Ideal) ws (ix2 h c) = hot (p h) c := by
  pointwise [k0_pay10]
  rw [hs h]
  exact word_hot c (p h)

/-- The weights folded onto the columns of `idx_B` on one side and the places of `indices` on the other. -/
theorem pay11_at (hb : Names wb b) (hs : Names ws p) (W : FVec Ideal S64x64 .f32) (d c : Fin 128) :
    k0_pay11 (F := Ideal) wb ws W (ix2 d c) = ∑ h, (∑ i, hot (b i) d * W (ix2 h i)) * hot (p h) c := by
  pointwise [k0_pay11]
  simp only [pay9_at hb, pay10_at hs]

/-- The table of `idx_A` folded onto the places of `indices`. -/
theorem pay12_at (ha : Names wa a) (hs : Names ws p) (d c : Fin 128) :
    k0_pay12 (F := Ideal) wa ws (ix2 d c) = ∑ h, hot (a h) d * hot (p h) c := by
  pointwise [k0_pay12]
  refine Finset.sum_congr rfl fun h _ => ?_
  rw [ha h, pay10_at hs]
  exact congrArg (· * hot (p h) c) (word_hot d (a h))

/-- The additive weights folded likewise, plus the diagonal that keeps the columns `indices` does not name. -/
theorem pay13_at (hb : Names wb b) (hs : Names ws p) (W : FVec Ideal S64x64 .f32) (d c : Fin 128) :
    k0_pay13 (F := Ideal) wb ws W (ix2 d c)
      = (if d = c then 1 - ∑ h, hot (p h) c else 0) + ∑ h, (∑ i, hot (b i) d * W (ix2 h i)) * hot (p h) c := by
  pointwise [k0_pay13]
  simp only [pay9_at hb, pay10_at hs]
  refine congrArg (· + _) ?_
  by_cases h : d = c
  · subst h
    rw [if_pos rfl]
    show Scalar.select (BitVec.ofBool (BitVec.ofNat 32 d.val == BitVec.ofNat 32 d.val)) _ _ = _
    rw [beq_self_eq_true]; rfl
  · rw [if_neg h]
    show Scalar.select (BitVec.ofBool (BitVec.ofNat 32 d.val == BitVec.ofNat 32 c.val)) _ _ = _
    rw [beq_eq_false_iff_ne.2 (fun q => h ((word_eq_iff d c).1 q).symm)]; rfl

/-- A bias folded onto the places of `indices`. -/
theorem pay4_at (hs : Names ws p) (v : FVec Ideal S64 .f32) (c : Fin 128) :
    k0_pay4 (F := Ideal) (k0_pay7 (F := Ideal) v) (k0_pay10 (F := Ideal) ws) (ix2 0 c) = ∑ h, v (ix1 h) * hot (p h) c := by
  pointwise [k0_pay4, k0_pay7]
  simp only [pay10_at hs]

/-- The other bias, folded likewise. -/
theorem pay5_at (hs : Names ws p) (v : FVec Ideal S64 .f32) (c : Fin 128) :
    k0_pay5 (F := Ideal) (k0_pay8 (F := Ideal) v) (k0_pay10 (F := Ideal) ws) (ix2 0 c) = ∑ h, v (ix1 h) * hot (p h) c := by
  pointwise [k0_pay5, k0_pay8]
  simp only [pay10_at hs]

/-- A block of rows through any tables `A`, `B`, `C` and biases `u`, `v`: `(x·A + u)·(x·B) + (x·C + v)`. -/
theorem pay6_at (x : FVec Ideal S8192x128 .f32) (A B C : FVec Ideal S128x128 .f32) (u v : FVec Ideal S1x128 .f32) (r : Fin 8192) (c : Fin 128) :
    k0_pay6 (F := Ideal) x A u B C v (ix2 r c)
      = ((∑ d, x (ix2 r d) * A (ix2 d c)) + u (ix2 0 c)) * (∑ d, x (ix2 r d) * B (ix2 d c))
        + ((∑ d, x (ix2 r d) * C (ix2 d c)) + v (ix2 0 c)) := by
  pointwise [k0_pay6]

end Cert.KernelIdeal.Block

end
-- ==== Proof.Point.lean ====
/- What the kernel's points leave: the tables that the first point stores, and the block that each point writes back, in
   the argument arrays. -/
module

public import proofs.«01_k».proof.Proof.Gen.KernelIdeal.Value
public import proofs.«01_k».proof.Proof.Block
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Point

open Idealize.ShloMosaic Idealize.ShloMosaic.TcCoe Idealize.SL.Sem
open Cert.KernelIdeal Cert.KernelIdeal.Gen Cert.KernelIdeal.Block Cert.OneHot Cert.Words

variable (m : (ℓ : Loc nD τ sig) → Buf (Elt Ideal) ℓ)

/-! ## The blocks read -/

/-- The index maps: the rows' windows move with the point, every other window stays. -/
theorem idx : ∀ t : Fin cfg0.N, win0_0.index t = ![0] ∧ win0_1.index t = ![0] ∧ win0_2.index t = ![0] ∧ win0_3.index t = ![0, 0]
    ∧ win0_4.index t = ![0, 0] ∧ win0_5.index t = ![0] ∧ win0_6.index t = ![0] ∧ win0_7.index t = ![t.val, 0] ∧ win0_8.index t = ![t.val, 0] :=
  (by decide +kernel : ∀ t : Fin grid0.N, _)

/-- The words of `idx_A`, at any point. -/
theorem blk0 (c : Dev nD) (t : Fin cfg0.N) (h : Fin 64) : iblk m c 0 t (ix1 h) = m ((c : Thread nD τ).loc main_arg6) (ix1 h) := by
  blk_point [iblk, V, idx t]

/-- The words of `idx_B`, at any point. -/
theorem blk1 (c : Dev nD) (t : Fin cfg0.N) (h : Fin 64) : iblk m c 1 t (ix1 h) = m ((c : Thread nD τ).loc main_arg7) (ix1 h) := by
  blk_point [iblk, V, idx t]

/-- The words of `indices`, at any point. -/
theorem blk2 (c : Dev nD) (t : Fin cfg0.N) (h : Fin 64) : iblk m c 2 t (ix1 h) = m ((c : Thread nD τ).loc main_arg5) (ix1 h) := by
  blk_point [iblk, V, idx t]

/-- The scaling weights, at any point. -/
theorem blk3 (c : Dev nD) (t : Fin cfg0.N) (h i : Fin 64) : iblk m c 3 t (ix2 h i) = m ((c : Thread nD τ).loc main_arg1) (ix2 h i) := by
  blk_point [iblk, V, idx t]

/-- The additive weights, at any point. -/
theorem blk4 (c : Dev nD) (t : Fin cfg0.N) (h i : Fin 64) : iblk m c 4 t (ix2 h i) = m ((c : Thread nD τ).loc main_arg3) (ix2 h i) := by
  blk_point [iblk, V, idx t]

/-- The scaling bias, at any point. -/
theorem blk5 (c : Dev nD) (t : Fin cfg0.N) (h : Fin 64) : iblk m c 5 t (ix1 h) = m ((c : Thread nD τ).loc main_arg2) (ix1 h) := by
  blk_point [iblk, V, idx t]

/-- The additive bias, at any point. -/
theorem blk6 (c : Dev nD) (t : Fin cfg0.N) (h : Fin 64) : iblk m c 6 t (ix1 h) = m ((c : Thread nD τ).loc main_arg4) (ix1 h) := by
  blk_point [iblk, V, idx t]

/-- Row `r` of point `t`'s block is row `8192 t + r` of the array. -/
theorem blk7 (c : Dev nD) (t : Fin cfg0.N) (r : Fin 8192) (d : Fin 128) :
    iblk m c 7 t (ix2 r d)
      = m ((c : Thread nD τ).loc main_arg0) (ix2 ⟨8192 * t.val + r.val, by have := lt_of_lt_of_eq t.isLt N_0; omega⟩ d) := by
  blk_point [iblk, V, idx t]

/-! ## The tables that the first point leaves -/

variable {p a b : Fin 64 → Fin 128}

/-- The scaling weights, folded on both sides. -/
def wTable (W : FVec Ideal S64x64 .f32) (b p : Fin 64 → Fin 128) (d q : Fin 128) : EReal :=
  ∑ h, (∑ i, hot (b i) d * W (ix2 h i)) * hot (p h) q

/-- The columns of `idx_A`, folded onto the places of `indices`. -/
def aTable (a p : Fin 64 → Fin 128) (d q : Fin 128) : EReal := ∑ h, hot (a h) d * hot (p h) q

/-- The kept columns' diagonal plus the additive weights, folded on both sides. -/
def kTable (W : FVec Ideal S64x64 .f32) (b p : Fin 64 → Fin 128) (d q : Fin 128) : EReal :=
  (if d = q then 1 - ∑ h, hot (p h) q else 0) + wTable W b p d q

/-- A bias, folded onto the places of `indices`. -/
def biasTable (v : FVec Ideal S64 .f32) (p : Fin 64 → Fin 128) (q : Fin 128) : EReal := ∑ h, v (ix1 h) * hot (p h) q

section Payloads
variable (c : Dev nD) (t : Fin cfg0.N)
  (hs : Names (m ((c : Thread nD τ).loc main_arg5)) p) (ha : Names (m ((c : Thread nD τ).loc main_arg6)) a)
  (hb : Names (m ((c : Thread nD τ).loc main_arg7)) b)
include hs

/-- A point's block of `indices` names the places that the array names. -/
theorem names_s : Names (iblk m c 2 t) p := fun h => (blk2 m c t h).trans (hs h)

/-- The scaling weights' payload over the blocks, in the arrays. -/
theorem w_at (hb : Names (m ((c : Thread nD τ).loc main_arg7)) b) (d q : Fin 128) :
    k0_pay11 (F := Ideal) (iblk m c 1 t) (iblk m c 2 t) (iblk m c 3 t) (ix2 d q) = wTable (m ((c : Thread nD τ).loc main_arg1)) b p d q :=
  (pay11_at (fun h => (blk1 m c t h).trans (hb h)) (names_s m c t hs) _ d q).trans
    (Finset.sum_congr rfl fun h _ => congrArg (· * hot (p h) q) (Finset.sum_congr rfl fun i _ => congrArg (hot (b i) d * ·) (blk3 m c t h i)))

/-- The gathered columns' payload over the blocks, in the arrays. -/
theorem a_at (ha : Names (m ((c : Thread nD τ).loc main_arg6)) a) (d q : Fin 128) :
    k0_pay12 (F := Ideal) (iblk m c 0 t) (iblk m c 2 t) (ix2 d q) = aTable a p d q :=
  pay12_at (fun h => (blk0 m c t h).trans (ha h)) (names_s m c t hs) d q

/-- The additive weights' payload over the blocks, in the arrays. -/
theorem k_at (hb : Names (m ((c : Thread nD τ).loc main_arg7)) b) (d q : Fin 128) :
    k0_pay13 (F := Ideal) (iblk m c 1 t) (iblk m c 2 t) (iblk m c 4 t) (ix2 d q) = kTable (m ((c : Thread nD τ).loc main_arg3)) b p d q :=
  (pay13_at (fun h => (blk1 m c t h).trans (hb h)) (names_s m c t hs) _ d q).trans
    (congrArg ((if d = q then 1 - ∑ h, hot (p h) q else 0) + ·) (Finset.sum_congr rfl fun h _ => congrArg (· * hot (p h) q)
      (Finset.sum_congr rfl fun i _ => congrArg (hot (b i) d * ·) (blk4 m c t h i))))

/-- The scaling bias's payload over the blocks, in the arrays. -/
theorem bm_at (q : Fin 128) :
    k0_pay4 (F := Ideal) (k0_pay7 (F := Ideal) (iblk m c 5 t)) (k0_pay10 (F := Ideal) (iblk m c 2 t)) (ix2 0 q)
      = biasTable (m ((c : Thread nD τ).loc main_arg2)) p q :=
  (pay4_at (names_s m c t hs) _ q).trans (Finset.sum_congr rfl fun h _ => congrArg (· * hot (p h) q) (blk5 m c t h))

/-- The additive bias's payload over the blocks, in the arrays. -/
theorem ba_at (q : Fin 128) :
    k0_pay5 (F := Ideal) (k0_pay8 (F := Ideal) (iblk m c 6 t)) (k0_pay10 (F := Ideal) (iblk m c 2 t)) (ix2 0 q)
      = biasTable (m ((c : Thread nD τ).loc main_arg4)) p q :=
  (pay5_at (names_s m c t hs) _ q).trans (Finset.sum_congr rfl fun h _ => congrArg (· * hot (p h) q) (blk6 m c t h))

end Payloads

/-- One table side by side with the two others: the buffer of 384 columns that the first point leaves. -/
theorem tables_at (c : Dev nD) (t : Fin cfg0.N) (h0 : t.val % 2 = 0) (d q : Fin 128) :
    (outsAt0 m c t.val t.isLt).2.1 (ix2 d ⟨q.val, by omega⟩)
        = k0_pay11 (F := Ideal) (iblk m c 1 t) (iblk m c 2 t) (iblk m c 3 t) (ix2 d q)
      ∧ (outsAt0 m c t.val t.isLt).2.1 (ix2 d ⟨128 + q.val, by omega⟩)
        = k0_pay12 (F := Ideal) (iblk m c 0 t) (iblk m c 2 t) (ix2 d q)
      ∧ (outsAt0 m c t.val t.isLt).2.1 (ix2 d ⟨256 + q.val, by omega⟩)
        = k0_pay13 (F := Ideal) (iblk m c 1 t) (iblk m c 2 t) (iblk m c 4 t) (ix2 d q) := by
  rw [outsAt0_A m c t h0]
  frame_out
  refine ⟨?_, ?_, ?_⟩
  · canon_tiles x e
    · exact absurd e1 (by simp only [ix2_1]; omega)
    · exact absurd e1 (by simp only [ix2_1]; omega)
    · idx_vars x
      obtain rfl : d = x0 := Fin.ext e0
      obtain rfl : q = x1 := Fin.ext e1
      pointwise [k0_pay1]
  · canon_tiles x e
    · exact absurd e1 (by simp only [ix2_1]; omega)
    · idx_vars x
      obtain rfl : d = x0 := Fin.ext e0
      obtain rfl : q = x1 := Fin.ext (Nat.add_left_cancel e1)
      pointwise [k0_pay2]
    · exact absurd e1 (by simp only [ix2_1]; omega)
  · canon_tiles x e
    · idx_vars x
      obtain rfl : d = x0 := Fin.ext e0
      obtain rfl : q = x1 := Fin.ext (Nat.add_left_cancel e1)
      pointwise [k0_pay3]
    · exact absurd e1 (by simp only [ix2_1]; omega)
    · exact absurd e1 (by simp only [ix2_1]; omega)

/-- The two folded biases that the first point leaves. -/
theorem biases_at (c : Dev nD) (t : Fin cfg0.N) (h0 : t.val % 2 = 0) :
    (outsAt0 m c t.val t.isLt).2.2.1 = k0_pay4 (F := Ideal) (k0_pay7 (F := Ideal) (iblk m c 5 t)) (k0_pay10 (F := Ideal) (iblk m c 2 t))
      ∧ (outsAt0 m c t.val t.isLt).2.2.2 = k0_pay5 (F := Ideal) (k0_pay8 (F := Ideal) (iblk m c 6 t)) (k0_pay10 (F := Ideal) (iblk m c 2 t)) := by
  constructor <;> (rw [outsAt0_A m c t h0]; frame_out)

/-! ## The block that a point writes back -/

/-- What the kernel leaves at row `r`, column `q`, in the argument arrays. -/
def value (c : Dev nD) (p a b : Fin 64 → Fin 128) (r : Fin 16384) (q : Fin 128) : EReal :=
  blended (fun d => m ((c : Thread nD τ).loc main_arg0) (ix2 r d)) (fun h i => m ((c : Thread nD τ).loc main_arg1) (ix2 h i))
    (fun h i => m ((c : Thread nD τ).loc main_arg3) (ix2 h i)) (fun h => m ((c : Thread nD τ).loc main_arg2) (ix1 h))
    (fun h => m ((c : Thread nD τ).loc main_arg4) (ix1 h)) p a b q

/-- A block of rows through tables that hold the folded weights and biases holds the kernel's values of those rows. -/
theorem value_of_tables (c : Dev nD) (t : Fin cfg0.N) (A B C : FVec Ideal S128x128 .f32) (u v : FVec Ideal S1x128 .f32) (q : Fin 128)
    (hA : ∀ d, A (ix2 d q) = wTable (m ((c : Thread nD τ).loc main_arg1)) b p d q) (hB : ∀ d, B (ix2 d q) = aTable a p d q)
    (hC : ∀ d, C (ix2 d q) = kTable (m ((c : Thread nD τ).loc main_arg3)) b p d q)
    (hu : u (ix2 0 q) = biasTable (m ((c : Thread nD τ).loc main_arg2)) p q) (hv : v (ix2 0 q) = biasTable (m ((c : Thread nD τ).loc main_arg4)) p q)
    (r : Fin 8192) :
    k0_pay6 (F := Ideal) (iblk m c 7 t) A u B C v (ix2 r q)
      = value m c p a b ⟨8192 * t.val + r.val, by have := lt_of_lt_of_eq t.isLt N_0; omega⟩ q := by
  rw [pay6_at]
  simp only [hA, hB, hC, hu, hv, blk7]
  rfl

section Out
variable (c : Dev nD) (t : Fin cfg0.N)
  (hs : Names (m ((c : Thread nD τ).loc main_arg5)) p) (ha : Names (m ((c : Thread nD τ).loc main_arg6)) a)
  (hb : Names (m ((c : Thread nD τ).loc main_arg7)) b)
include hs ha hb

/-- The point that stores the tables writes back its rows' values. -/
theorem out_A (h0 : t.val % 2 = 0) (r : Fin 8192) (q : Fin 128) :
    (outsAt0 m c t.val t.isLt).1 (ix2 r q) = value m c p a b ⟨8192 * t.val + r.val, by have := lt_of_lt_of_eq t.isLt N_0; omega⟩ q := by
  rw [outsAt0_A m c t h0]
  frame_out
  refine value_of_tables m c t _ _ _ _ _ q (fun d => ?_) (fun d => ?_) (fun d => ?_) (bm_at m c t hs q) (ba_at m c t hs q) r
  · rw [View.readCov_skip _ _ _ _ _ rfl, View.readCov_skip _ _ _ _ _ rfl, View.readCov_cons_toLoadRect, ← w_at m c t hs hb d q]
    pointwise [k0_pay1]
  · rw [View.readCov_skip _ _ _ _ _ rfl, View.readCov_cons_toLoadRect, ← a_at m c t hs ha d q]
    pointwise [k0_pay2]
  · rw [View.readCov_cons_toLoadRect, ← k_at m c t hs hb d q]
    pointwise [k0_pay3]

/-- A later point, which reads the tables that the point before it left, does too. -/
theorem out_B (h0 : ¬ t.val % 2 = 0) (r : Fin 8192) (q : Fin 128) :
    (outsAt0 m c t.val t.isLt).1 (ix2 r q) = value m c p a b ⟨8192 * t.val + r.val, by have := lt_of_lt_of_eq t.isLt N_0; omega⟩ q := by
  have hlt : t.val - 1 < cfg0.N := Nat.lt_of_le_of_lt (Nat.sub_le _ _) t.isLt
  have hev : (⟨t.val - 1, hlt⟩ : Fin cfg0.N).val % 2 = 0 := by show (t.val - 1) % 2 = 0; omega
  have hT := tables_at m c ⟨t.val - 1, hlt⟩ hev
  have hB := biases_at m c ⟨t.val - 1, hlt⟩ hev
  rw [outsAt0_B m c t h0]
  frame_out
  simp only [read_unread_whole]
  refine value_of_tables m c t _ _ _ _ _ q (fun d => ?_) (fun d => ?_) (fun d => ?_) ?_ ?_ r
  · pointwise
    exact (hT d q).1.trans (w_at m c _ hs hb d q)
  · pointwise
    exact (hT d q).2.1.trans (a_at m c _ hs ha d q)
  · pointwise
    exact (hT d q).2.2.trans (k_at m c _ hs hb d q)
  · exact (congrFun hB.1 _).trans (bm_at m c _ hs q)
  · exact (congrFun hB.2 _).trans (ba_at m c _ hs q)

/-- So every point writes back the values of its rows. -/
theorem out_at (r : Fin 8192) (q : Fin 128) :
    (outsAt0 m c t.val t.isLt).1 (ix2 r q) = value m c p a b ⟨8192 * t.val + r.val, by have := lt_of_lt_of_eq t.isLt N_0; omega⟩ q := by
  by_cases h0 : t.val % 2 = 0
  · exact out_A m c t hs ha hb h0 r q
  · exact out_B m c t hs ha hb h0 r q

/-! ## The array -/

omit t in
/-- The result array: the kernel's value at every row and column. -/
theorem final : (dats m 0 c).arrAt 8 (cfgs 0).N = fun i : S16384x128.Idx => value m c p a b (i 0) (i 1) := by
  refine (dats m 0 c).arrAt_eq_of_covers 8 _ (by decide +kernel) fun t hf y => ?_
  blk_simp
  rw [after0_8]
  idx_vars y
  refine (out_at m c t hs ha hb y0 y1).trans ?_
  refine congrArg₂ (value m c p a b) (Fin.ext ?_) (Fin.ext ?_)
  · show 8192 * t.val + y0.val = _
    blk_simp [idx t]
    omega
  · blk_simp [idx t]

end Out

end Cert.KernelIdeal.Point

end
-- ==== Proof.Ref.lean ====
/- What the reference computes: its result read at an index, over extended reals. -/
module

public import proofs.«01_k».proof.Proof.Gen.ReferenceIdeal.Run
public import proofs.«01_k».proof.Proof.OneHot
public import proofs.«01_k».proof.Proof.Words
public import Idealize.ShloMosaic.Lib.Pointwise
public import Idealize.ShloMosaic.Lib.WordCmp
public import Idealize.ShloMosaic.Lib.Routing.OpsPair
public import Idealize.ShloMosaic.Lib.Routing.OpsSet

@[expose] public section

set_option maxRecDepth 16384

noncomputable section

namespace Cert.ReferenceIdeal.Ref

open Idealize.ShloMosaic Idealize.ShloMosaic.TcCoe Idealize.SL.Sem
open Idealize.ShloMosaic.Routing
open Cert.ReferenceIdeal Cert.ReferenceIdeal.Gen Cert.OneHot Cert.Words

/-- The words as start indices: negative ones wrapped once, in a column. -/
def starts (w : IVec S64 32) : IVec S64x1 32 :=
  broadcastInDim S64x1 ![0] bcast_S64_S64x1_0 (select (cmpi .slt w (broadcastInDim S64 ![] bcast_S_S64 (constantI S_ 32 0#32)))
    (addi w (broadcastInDim S64 ![] bcast_S_S64 (constantI S_ 32 128#32))) w)

/-- Which start indices are inside the axis. -/
def inside (w : IVec S64 32) : IVec S64 1 :=
  Host.reduce IntOp.andi (andi (cmpi .sge (starts w) (broadcastInDim S64x1 ![] bcast_S_S64x1 (constantI S_ 32 0#32)))
    (cmpi .sle (starts w) (broadcastInDim S64x1 ![0, 1] bcast_S1x1_S64x1_0_1 (broadcastInDim S1x1 ![1] bcast_S1_S1x1_1 (constantI S1 32 127#32)))))
    (constantI S_ 1 1#1) reducesTo_S64x1_S64_d1 h_S_

/-- The columns of `x` that the words name, where they are inside; elsewhere the constant. -/
def taken (x : FVec Ideal S16384x128 .f32) (w : IVec S64 32) : FVec Ideal S16384x64 .f32 :=
  select (broadcastInDim S16384x64 ![1] bcast_S64_S16384x64_1 (inside w))
    (Host.gather gather_S16384x128_S64x1_S16384x64_0_1_n_n_1_1_163841 x (starts w))
    (broadcastInDim S16384x64 ![] bcast_S_S16384x64 (constant (F := Ideal) S_ .f32 0x7FC00000#32))

/-- The gathered columns through weights, plus a bias. -/
def affine (x : FVec Ideal S16384x128 .f32) (w : IVec S64 32) (W : FVec Ideal S64x64 .f32) (v : FVec Ideal S64 .f32) : FVec Ideal S16384x64 .f32 :=
  addf (Host.dotGeneral dot_S16384x64_S64x64_S16384x64_1_0_0_1_n_n none (taken x w) (transpose S64x64 [1, 0] W transposes_S64x64_S64x64_1_0))
    (broadcastInDim S16384x64 ![0, 1] bcast_S1x64_S16384x64_0_1 (broadcastInDim S1x64 ![1] bcast_S64_S1x64_1 v))

/-- The columns that the reference puts back. -/
def updates (x : FVec Ideal S16384x128 .f32) (Wm : FVec Ideal S64x64 .f32) (bm : FVec Ideal S64 .f32) (Wa : FVec Ideal S64x64 .f32)
    (ba : FVec Ideal S64 .f32) (wa wb : IVec S64 32) : FVec Ideal S16384x64 .f32 :=
  addf (mulf (affine x wb Wm bm) (taken x wa)) (affine x wb Wa ba)

/-- The reference's result, by its parts. -/
theorem res_eq (m : (ℓ : Loc nD τ sig) → Buf (Elt Ideal) ℓ) (c : Dev nD) :
    Value.res_main_v20 (F := Ideal) m c
      = Host.scatter scatter_S16384x128_S64x1_S16384x64_0_1_1_1 (fun _ b => b) (m ((c.tc : Thread nD τ).loc main_arg0))
          (starts (m ((c.tc : Thread nD τ).loc main_arg5)))
          (updates (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg6))
            (m ((c.tc : Thread nD τ).loc main_arg7))) := rfl

variable {w wa wb : IVec S64 32} {p a b : Fin 64 → Fin 128}

/-- A word that names a column is its own start index. -/
theorem starts_at (hw : Names w p) (h : Fin 64) : starts w (ix2 h 0) = BitVec.ofNat 32 (p h).val := by
  pointwise [starts]
  rw [hw h]
  exact wrap_of_lt _ _ (by rw [BitVec.toNat_ofNat]; omega)

/-- And it is inside the axis. -/
theorem inside_at (hw : Names w p) (h : Fin 64) : inside w (ix1 h) = 1#1 := by
  pointwise [inside]
  rw [show (Finset.univ : Finset (Fin 1)) = {0} from rfl, Finset.fold_singleton, starts_at hw h, WordCmp.cmpi_sge_ofNat (b := 0) (by omega) (by decide),
    WordCmp.cmpi_sle_ofNat (b := 127) (by omega) (by decide), decide_eq_true (Nat.zero_le _), decide_eq_true (show (p h).val ≤ 127 by omega)]
  rfl

/-- The gather reads the column named. -/
theorem gather_at (x : FVec Ideal S16384x128 .f32) (hw : Names w p) (r : Fin 16384) (h : Fin 64) :
    Host.gather gather_S16384x128_S64x1_S16384x64_0_1_n_n_1_1_163841 x (starts w) (ix2 r h) = x (ix2 r (p h)) := by
  unfold Host.gather
  refine congrArg x (funext fun q => Fin.ext ?_)
  match q with
  | ⟨0, _⟩ =>
    show 0 + 0 + r.val = r.val
    omega
  | ⟨1, _⟩ =>
    have hst : (gather_S16384x128_S64x1_S16384x64_0_1_n_n_1_1_163841).siIdx (ix2 r h) ⟨0, by decide⟩ = ix2 h 0 := by
      funext k; refine Fin.ext ?_
      match k with
      | ⟨0, _⟩ => rfl
      | ⟨1, _⟩ => rfl
    show min (starts w ((gather_S16384x128_S64x1_S16384x64_0_1_n_n_1_1_163841).siIdx (ix2 r h) ⟨0, _⟩)).toInt.toNat (128 - 1) + 0 + 0 = (p h).val
    rw [hst, starts_at hw h, WordCmp.toInt_ofNat_of_lt (by omega)]
    omega

/-- So the columns taken are the columns named. -/
theorem taken_at (x : FVec Ideal S16384x128 .f32) (hw : Names w p) (r : Fin 16384) (h : Fin 64) : taken x w (ix2 r h) = x (ix2 r (p h)) := by
  pointwise [taken]
  rw [inside_at hw h, gather_at x hw r h]
  rfl

/-- What the reference puts back in row `r` for place `h`. -/
theorem updates_at (x : FVec Ideal S16384x128 .f32) (Wm : FVec Ideal S64x64 .f32) (bm : FVec Ideal S64 .f32) (Wa : FVec Ideal S64x64 .f32)
    (ba : FVec Ideal S64 .f32) (ha : Names wa a) (hb : Names wb b) (r : Fin 16384) (h : Fin 64) :
    updates x Wm bm Wa ba wa wb (ix2 r h)
      = coupled (fun d => x (ix2 r d)) (fun h i => Wm (ix2 h i)) (fun h i => Wa (ix2 h i)) (fun h => bm (ix1 h)) (fun h => ba (ix1 h)) a b h := by
  pointwise [updates, affine]
  simp only [taken_at x ha, taken_at x hb]
  rfl

/-- Update `(r', h)` of the scatter lands in row `r'`, in the column that word `h` names. -/
theorem lands_iff (hw : Names w p) (r' r : Fin 16384) (h : Fin 64) (q : Fin 128) :
    (scatter_S16384x128_S64x1_S16384x64_0_1_1_1).resultIdx? (ix2 r' h) (starts w) = some (ix2 r q) ↔ r' = r ∧ p h = q := by
  rw [resultIdx?_eq_some]
  have hst : (scatter_S16384x128_S64x1_S16384x64_0_1_1_1).siIdx (ix2 r' h) ⟨0, by decide⟩ = ix2 h 0 := by
    funext k; refine Fin.ext ?_
    match k with
    | ⟨0, _⟩ => rfl
    | ⟨1, _⟩ => rfl
  have s0 : (scatter_S16384x128_S64x1_S16384x64_0_1_1_1).start (ix2 r' h) (starts w) 0 = 0 := rfl
  have w0 : (scatter_S16384x128_S64x1_S16384x64_0_1_1_1).window (ix2 r' h) 0 = r'.val := rfl
  have s1 : (scatter_S16384x128_S64x1_S16384x64_0_1_1_1).start (ix2 r' h) (starts w) 1 = ((p h).val : Int) := by
    show (starts w ((scatter_S16384x128_S64x1_S16384x64_0_1_1_1).siIdx (ix2 r' h) ⟨0, _⟩)).toInt = _
    rw [hst, starts_at hw h, WordCmp.toInt_ofNat_of_lt (by omega)]
  have w1 : (scatter_S16384x128_S64x1_S16384x64_0_1_1_1).window (ix2 r' h) 1 = 0 := rfl
  refine (Fin.forall_fin_two).trans ?_
  show (scatter_S16384x128_S64x1_S16384x64_0_1_1_1).start (ix2 r' h) (starts w) 0
        + ((scatter_S16384x128_S64x1_S16384x64_0_1_1_1).window (ix2 r' h) 0 : Int) = (r.val : Int)
      ∧ (scatter_S16384x128_S64x1_S16384x64_0_1_1_1).start (ix2 r' h) (starts w) 1
        + ((scatter_S16384x128_S64x1_S16384x64_0_1_1_1).window (ix2 r' h) 1 : Int) = (q.val : Int) ↔ _
  rw [s0, w0, s1, w1, Fin.ext_iff, Fin.ext_iff]
  omega

section Scatter
variable (x : FVec Ideal S16384x128 .f32) (u : FVec Ideal S16384x64 .f32) (hw : Names w p) (r : Fin 16384)
include hw

/-- At a column that word `h` alone names, the scatter leaves update `h`. -/
theorem scatter_hit (hp : Function.Injective p) (h : Fin 64) :
    Host.scatter scatter_S16384x128_S64x1_S16384x64_0_1_1_1 (fun _ b => b) x (starts w) u (ix2 r (p h)) = u (ix2 r h) := by
  refine scatter_set_hit _ _ _ _ _ _ (fun k hk => ?_) (ix2 r h) ((lands_iff hw r r h (p h)).2 ⟨rfl, rfl⟩)
  idx_vars k
  obtain ⟨rfl, e⟩ := (lands_iff hw k0 r k1 (p h)).1 hk
  rw [hp e]

/-- At a column that no word names, it leaves the operand. -/
theorem scatter_miss (q : Fin 128) (hq : ∀ h, p h ≠ q) :
    Host.scatter scatter_S16384x128_S64x1_S16384x64_0_1_1_1 (fun _ b => b) x (starts w) u (ix2 r q) = x (ix2 r q) := by
  refine scatter_set_miss _ _ _ _ _ fun k hk => ?_
  idx_vars k
  exact hq k1 ((lands_iff hw k0 r k1 q).1 hk).2

end Scatter

end Cert.ReferenceIdeal.Ref

end
-- ==== Proof.Equation.lean ====
/- The equation of the claim: at every row and column the kernel's value is the reference's. -/
module

public import proofs.«01_k».proof.Proof.Point
public import proofs.«01_k».proof.Proof.Ref

@[expose] public section

set_option maxRecDepth 16384

noncomputable section

namespace Cert.Equation

open Idealize.ShloMosaic Idealize.ShloMosaic.TcCoe Idealize.SL.Sem
open Cert.OneHot Cert.Words

/-- From memories that agree on the arguments, with every index word naming a column and the words of `indices` and of `idx_B`
    each naming columns of their own, the reference's result holds the kernel's values. -/
theorem res_eq_value (m : (ℓ : Loc Cert.KernelIdeal.nD Cert.KernelIdeal.τ Cert.KernelIdeal.sig) → Buf (Elt Ideal) ℓ)
    (c : Dev Cert.KernelIdeal.nD) {p a b : Fin 64 → Fin 128}
    (hs : Names (m ((c : Thread Cert.KernelIdeal.nD Cert.KernelIdeal.τ).loc Cert.KernelIdeal.main_arg5)) p)
    (ha : Names (m ((c : Thread Cert.KernelIdeal.nD Cert.KernelIdeal.τ).loc Cert.KernelIdeal.main_arg6)) a)
    (hb : Names (m ((c : Thread Cert.KernelIdeal.nD Cert.KernelIdeal.τ).loc Cert.KernelIdeal.main_arg7)) b)
    (hp : Function.Injective p) (hq : Function.Injective b) (r : Fin 16384) (q : Fin 128) :
    Host.scatter Cert.ReferenceIdeal.scatter_S16384x128_S64x1_S16384x64_0_1_1_1 (fun _ b => b)
        (m ((c : Thread Cert.KernelIdeal.nD Cert.KernelIdeal.τ).loc Cert.KernelIdeal.main_arg0))
        (Cert.ReferenceIdeal.Ref.starts (m ((c : Thread Cert.KernelIdeal.nD Cert.KernelIdeal.τ).loc Cert.KernelIdeal.main_arg5)))
        (Cert.ReferenceIdeal.Ref.updates (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg6))
          (m ((c : Thread Cert.KernelIdeal.nD Cert.KernelIdeal.τ).loc Cert.KernelIdeal.main_arg7))) (ix2 r q)
      = Cert.KernelIdeal.Point.value m c p a b r q := by
  by_cases h : ∃ h, p h = q
  · obtain ⟨h, rfl⟩ := h
    exact (Cert.ReferenceIdeal.Ref.scatter_hit _ _ hs r hp h).trans
      ((Cert.ReferenceIdeal.Ref.updates_at _ _ _ _ _ ha hb r h).trans (blended_hit _ _ _ _ _ p a b hp hq h).symm)
  · have hn : ∀ h', p h' ≠ q := fun h' e => h ⟨h', e⟩
    exact (Cert.ReferenceIdeal.Ref.scatter_miss _ _ hs r q hn).trans (blended_miss
      (fun d => m ((c : Thread Cert.KernelIdeal.nD Cert.KernelIdeal.τ).loc Cert.KernelIdeal.main_arg0) (ix2 r d)) _ _ _ _ p a b q hn).symm

end Cert.Equation

end
-- ==== Proof.lean ====
/- The claims put together: the three programs' frames, the kernel's texts compared, and the kernel's result equal to the
   reference's over extended reals. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem
open Cert.Words

/-- The reference runs to the end from every memory, leaves its arguments and holds no semaphore. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from a memory the precondition admits. -/
theorem reference_frame_pre : quiescent_ReferenceIdeal_pre_indices_ok := fun m ρ _ => reference_frame m ρ trivial

/-- Under the precondition the kernel's result is the reference's, element by element over extended reals. -/
theorem algebraic : algebraic_KernelIdeal_ReferenceIdeal_pre_indices_ok := by
  intro m ρ m' ρ' hpre hagree
  refine ⟨_, (θ_run Cert.KernelIdeal.defs _ _).mono (fun r h c => ⟨(h c).1.trans (Cert.KernelIdeal.Point.final m c
      (pre_indices (hpre c)).1 (pre_idxA (hpre c)) (pre_idxB (hpre c)).1), (h c).2⟩) (Cert.KernelIdeal.Value.run_blocks (F := Ideal) m ρ), ?_⟩
  refine (θ_run Cert.ReferenceIdeal.defs _ _).mono (fun _ h c => ⟨?_, (h c).2⟩) (Cert.ReferenceIdeal.Value.run (F := Ideal) m' ρ')
  rw [(h c).1, Cert.ReferenceIdeal.Ref.res_eq]
  simp only [hagree c]
  funext i
  idx_vars i
  exact Cert.Equation.res_eq_value m c (pre_indices (hpre c)).1 (pre_idxA (hpre c)) (pre_idxB (hpre c)).1 (pre_indices (hpre c)).2
    (pre_idxB (hpre c)).2 i0 i1

/-- Every claim, together. -/
theorem claim : Cert.Claim := ⟨Cert.Kernel.Gen.facts, Cert.KernelIdeal.Gen.facts, Cert.ReferenceIdeal.Gen.facts, Cert.Words.facts,
  fun m ρ _ => Cert.Kernel.Gen.frame m ρ, fun m ρ _ => Cert.KernelIdeal.Gen.frame m ρ, fun m ρ _ => Cert.KernelIdeal.Gen.frame m ρ,
  reference_frame, reference_frame_pre, (trivial : preserves_Kernel_KernelIdeal), algebraic⟩

end Cert.Proof

end
